-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1_0)) (v1 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0 c
          ∧ r.2.mem ((c.tc : Thread Cert.Kernel.nD Cert.Kernel.τ).loc Cert.Kernel.main_v2) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0_0) = v0 c
          ∧ r.2.mem ((c.tc : Thread Cert.Reference.nD Cert.Reference.τ).loc Cert.Reference.main_v0_1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S41x1024x2048 : Shape := ⟨3, ![41, 1024, 2048]⟩
abbrev S41x1024 : Shape := ⟨2, ![41, 1024]⟩
abbrev S41x1x1024 : Shape := ⟨3, ![41, 1, 1024]⟩
abbrev S41x16x1024 : Shape := ⟨3, ![41, 16, 1024]⟩
abbrev S1x256x2048 : Shape := ⟨3, ![1, 256, 2048]⟩
abbrev S1x1x256 : Shape := ⟨3, ![1, 1, 256]⟩
abbrev S1x16x256 : Shape := ⟨3, ![1, 16, 256]⟩
abbrev S1x128x2048 : Shape := ⟨3, ![1, 128, 2048]⟩
abbrev S128x2048 : Shape := ⟨2, ![128, 2048]⟩
abbrev S1x1x128 : Shape := ⟨3, ![1, 1, 128]⟩
abbrev S1x128 : Shape := ⟨2, ![1, 128]⟩
abbrev S128x1 : Shape := ⟨2, ![128, 1]⟩
abbrev S128x128 : Shape := ⟨2, ![128, 128]⟩
abbrev S128 : Shape := ⟨1, ![128]⟩
abbrev S128x16 : Shape := ⟨2, ![128, 16]⟩
abbrev S16x128 : Shape := ⟨2, ![16, 128]⟩
abbrev S1x16x128 : Shape := ⟨3, ![1, 16, 128]⟩
abbrev S1x128x128 : Shape := ⟨3, ![1, 128, 128]⟩
abbrev S41x1024x16 : Shape := ⟨3, ![41, 1024, 16]⟩

abbrev nBuf : Space → Nat
  | .hbm => 7
  | .vmem => 10
  | .smem => 0
  | _ => 0

abbrev bufTy : (tb : Table) → Fin (tcTables nBuf tb) → BufTy
  | .hbm, ⟨0, _⟩ => ⟨S41x1024x2048, .bf16⟩
  | .hbm, ⟨1, _⟩ => ⟨S41x1024x2048, .bf16⟩
  | .hbm, ⟨2, _⟩ => ⟨S41x1024, .f32⟩
  | .hbm, ⟨3, _⟩ => ⟨S41x1x1024, .f32⟩
  | .hbm, ⟨4, _⟩ => ⟨S41x1024x2048, .fp8e4m3⟩
  | .hbm, ⟨5, _⟩ => ⟨S41x16x1024, .f32⟩
  | .hbm, ⟨6, _⟩ => ⟨S41x1024x16, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x1x256, .f32⟩
  | .local _ .vmem, ⟨5, _⟩ => ⟨S1x1x256, .f32⟩
  | .local _ .vmem, ⟨6, _⟩ => ⟨S1x256x2048, .fp8e4m3⟩
  | .local _ .vmem, ⟨7, _⟩ => ⟨S1x256x2048, .fp8e4m3⟩
  | .local _ .vmem, ⟨8, _⟩ => ⟨S1x16x256, .f32⟩
  | .local _ .vmem, ⟨9, _⟩ => ⟨S1x16x256, .f32⟩
  | _, _ => ⟨S41x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![41, 4], ![false, false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  v1
def k0_off1 (k0_t1 : Fin k0_t1_loop.trips) : Fin 3 → Nat :=
  let c0 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v3 : Index := Scalar.indexCast v2
  let c0_1 : Index := 0#32
  ![0, v3.toNat, 0]
def k0_off2 (k0_t1 : Fin k0_t1_loop.trips) : Fin 3 → Nat :=
  let c0_4 : Index := 0#32
  let c0_5 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v11 : Index := Scalar.indexCast v2
  ![0, 0, v11.toNat]
def k0_off3 (k0_t1 : Fin k0_t1_loop.trips) : Fin 3 → Nat :=
  let c0_59 : Index := 0#32
  let c0_60 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v212 : Index := Scalar.indexCast v2
  ![0, 0, v212.toNat]
def k0_off4 (k0_t1 : Fin k0_t1_loop.trips) : Fin 3 → Nat :=
  let c0_63 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v225 : Index := Scalar.indexCast v2
  let c0_64 : Index := 0#32
  ![0, v225.toNat, 0]
def k0_off5 (k0_t1 : Fin k0_t1_loop.trips) : Fin 3 → Nat :=
  let c0_67 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v238 : Index := Scalar.indexCast v2
  let c128 : Index := 128#32
  ![0, v238.toNat, 128]
def k0_off6 (k0_t1 : Fin k0_t1_loop.trips) : Fin 3 → Nat :=
  let c0_70 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v251 : Index := Scalar.indexCast v2
  let c256 : Index := 256#32
  ![0, v251.toNat, 256]
def k0_off7 (k0_t1 : Fin k0_t1_loop.trips) : Fin 3 → Nat :=
  let c0_73 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v264 : Index := Scalar.indexCast v2
  let c384 : Index := 384#32
  ![0, v264.toNat, 384]
def k0_off8 (k0_t1 : Fin k0_t1_loop.trips) : Fin 3 → Nat :=
  let c0_76 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v277 : Index := Scalar.indexCast v2
  let c512 : Index := 512#32
  ![0, v277.toNat, 512]
def k0_off9 (k0_t1 : Fin k0_t1_loop.trips) : Fin 3 → Nat :=
  let c0_79 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v290 : Index := Scalar.indexCast v2
  let c640 : Index := 640#32
  ![0, v290.toNat, 640]
def k0_off10 (k0_t1 : Fin k0_t1_loop.trips) : Fin 3 → Nat :=
  let c0_82 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v303 : Index := Scalar.indexCast v2
  let c768 : Index := 768#32
  ![0, v303.toNat, 768]
def k0_off11 (k0_t1 : Fin k0_t1_loop.trips) : Fin 3 → Nat :=
  let c0_85 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v316 : Index := Scalar.indexCast v2
  let c896 : Index := 896#32
  ![0, v316.toNat, 896]
def k0_off12 (k0_t1 : Fin k0_t1_loop.trips) : Fin 3 → Nat :=
  let c0_88 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v329 : Index := Scalar.indexCast v2
  let c1024 : Index := 1024#32
  ![0, v329.toNat, 1024]
def k0_off13 (k0_t1 : Fin k0_t1_loop.trips) : Fin 3 → Nat :=
  let c0_91 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v342 : Index := Scalar.indexCast v2
  let c1152 : Index := 1152#32
  ![0, v342.toNat, 1152]
def k0_off14 (k0_t1 : Fin k0_t1_loop.trips) : Fin 3 → Nat :=
  let c0_94 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v355 : Index := Scalar.indexCast v2
  let c1280 : Index := 1280#32
  ![0, v355.toNat, 1280]
def k0_off15 (k0_t1 : Fin k0_t1_loop.trips) : Fin 3 → Nat :=
  let c0_97 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v368 : Index := Scalar.indexCast v2
  let c1408 : Index := 1408#32
  ![0, v368.toNat, 1408]
def k0_off16 (k0_t1 : Fin k0_t1_loop.trips) : Fin 3 → Nat :=
  let c0_100 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v381 : Index := Scalar.indexCast v2
  let c1536 : Index := 1536#32
  ![0, v381.toNat, 1536]
def k0_off17 (k0_t1 : Fin k0_t1_loop.trips) : Fin 3 → Nat :=
  let c0_103 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v394 : Index := Scalar.indexCast v2
  let c1664 : Index := 1664#32
  ![0, v394.toNat, 1664]
def k0_off18 (k0_t1 : Fin k0_t1_loop.trips) : Fin 3 → Nat :=
  let c0_106 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v407 : Index := Scalar.indexCast v2
  let c1792 : Index := 1792#32
  ![0, v407.toNat, 1792]
def k0_off19 (k0_t1 : Fin k0_t1_loop.trips) : Fin 3 → Nat :=
  let c0_109 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v420 : Index := Scalar.indexCast v2
  let c1920 : Index := 1920#32
  ![0, v420.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference.lean ====
abbrev S41x1024x2048 : Shape := ⟨3, ![41, 1024, 2048]⟩
abbrev S41x1024 : Shape := ⟨2, ![41, 1024]⟩
abbrev S41x1024x16 : Shape := ⟨3, ![41, 1024, 16]⟩
abbrev S41x1024x1 : Shape := ⟨3, ![41, 1024, 1]⟩
abbrev S41x1024x16x128 : Shape := ⟨4, ![41, 1024, 16, 128]⟩
abbrev S41x1024x16x1 : Shape := ⟨4, ![41, 1024, 16, 1]⟩

abbrev nBuf : Space → Nat
  | .hbm => 5
  | .vmem => 5
  | .smem => 0
  | _ => 0

abbrev bufTy : (tb : Table) → Fin (tcTables nBuf tb) → BufTy
  | .hbm, ⟨0, _⟩ => ⟨S41x1024x2048, .bf16⟩
  | .hbm, ⟨1, _⟩ => ⟨S41x1024x2048, .bf16⟩
  | .hbm, ⟨2, _⟩ => ⟨S41x1024, .f32⟩
  | .hbm, ⟨3, _⟩ => ⟨S41x1024x2048, .fp8e4m3⟩
  | .hbm, ⟨4, _⟩ => ⟨S41x1024x16, .f32⟩
  | .local _ .vmem, ⟨0, _⟩ => ⟨S41x1024x2048, .bf16⟩
  | .local _ .vmem, ⟨1, _⟩ => ⟨S41x1024x2048, .bf16⟩
  | .local _ .vmem, ⟨2, _⟩ => ⟨S41x1024, .f32⟩
  | .local _ .vmem, ⟨3, _⟩ => ⟨S41x1024x2048, .fp8e4m3⟩
  | .local _ .vmem, ⟨4, _⟩ => ⟨S41x1024x16, .f32⟩
  | _, _ => ⟨S41x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

abbrev stage0_0 : Fin 1 → Memref sig .tc .vmem S41x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S41x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S41x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S41x1024x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S41x1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  What both programs compute, entry by entry, in scalar operations: the product `gate · σ(gate) · up · weight`, the largest
  magnitude of a group of 128 products, the power of two the group is scaled by, its inverse, and the 8-bit code.
-/
module

public import Idealize.ShloMosaic.PureOps
public import Idealize.ShloMosaic.PureOps.Reduce
public import Idealize.ShloMosaic.Lib.Pipeline.Value
public import Idealize.ShloMosaic.Lib.ValueIdxCore

@[expose] public section

noncomputable section

namespace Cert.Spec

open Idealize.ShloMosaic Idealize.ShloMosaic.ValueIdx

variable {F : FTy → Type} [BitOps F]

/-- The weighted SwiGLU product of one entry: `gate · σ(gate) · up · weight`, the two bf16 operands widened first. -/
def prod (g u : F .bf16) (w : F .f32) : F .f32 :=
  FloatOps.mulf (FloatOps.mulf (FloatOps.mulf (FloatOps.extf .f32 (by decide) g) (FloatOps.logistic (FloatOps.extf .f32 (by decide) g)))
    (FloatOps.extf .f32 (by decide) u)) w

/-- The largest magnitude among 128 values: the fold of the maximum from minus infinity over their absolute values. -/
def amax [Std.Commutative (FloatOps.maximumf (F := F) (φ := .f32))] [Std.Associative (FloatOps.maximumf (F := F) (φ := .f32))]
    (y : Fin 128 → F .f32) : F .f32 :=
  (Finset.univ : Finset (Fin 128)).fold FloatOps.maximumf (FloatOps.ofBits .f32 0xFF800000#32) fun k => FloatOps.absf (y k)

omit [BitOps F] in
/-- A maximum over one axis of the absolute values, at a kept index: the fold over that axis's coordinates. -/
theorem reduce_abs [FloatOps F] [Std.Commutative (FloatOps.maximumf (F := F) (φ := .f32))]
    [Std.Associative (FloatOps.maximumf (F := F) (φ := .f32))] {s t : Shape} {a : Fin s.rank} (x : FVec F s .f32) (h : s.Reduces [a] t)
    (hφ : FKind.Formats .f32) (hacc : 0xFF800000#32 = FKind.maximumf.neutral .f32 hφ) (j : t.Idx) :
    multiReduction .maximumf [a] t (absf x) 0xFF800000#32 h hφ hacc j
      = (Finset.univ : Finset (Fin (s.size a))).fold FloatOps.maximumf (FloatOps.ofBits .f32 0xFF800000#32)
          fun k => FloatOps.absf (x (h.lift j k)) := by
  classical
  rw [multiReduction_maximumf_eq_fold, Shape.Reduces.fold_filter_drop_single]
  rfl

/-- The word of a value, a zero or subnormal word replaced by the zero of its sign. -/
def word (x : F .f32) : BitVec 32 :=
  BitOps.toBits (FloatOps.ofBits .f32 (Scalar.select (IntOp.cmpi .eq (IntOp.andi (BitOps.toBits x) 2139095040#32) 0#32)
    (IntOp.andi (BitOps.toBits x) 2147483648#32) (BitOps.toBits x)) : F .f32)

/-- The exponent field of a word. -/
def field (b : BitVec 32) : BitVec 32 := IntOp.andi (IntOp.shrui .vector b 23#32) 255#32

/-- The exponent `e` of `a / 448 = f · 2^e` with `1/2 ≤ |f| < 1`; zero where `a` is zero, or `a / 448` is zero or not finite. -/
def expo (a : F .f32) : BitVec 32 :=
  Scalar.select (FloatOps.cmpf .oeq a (FloatOps.ofBits .f32 0x00000000#32)) 0#32
    (Scalar.select
      (IntOp.ori (IntOp.cmpi .eq (field (word (FloatOps.mulf a (FloatOps.ofBits .f32 0x3B124925#32)))) 255#32)
        (IntOp.cmpi .eq (field (word (FloatOps.mulf a (FloatOps.ofBits .f32 0x3B124925#32)))) 0#32))
      0#32 (IntOp.subi (field (word (FloatOps.mulf a (FloatOps.ofBits .f32 0x3B124925#32)))) 126#32))

/-- The word of `1.0`. -/
def one : BitVec 32 := word (FloatOps.ofBits .f32 0x3F800000#32 : F .f32)

/-- The sign bit of `1.0`. -/
def oneSign : BitVec 32 := IntOp.andi (one (F := F)) 2147483648#32

/-- The exponent field of `1.0 · 2^e`, `e` clamped to `[-512, 512]`. -/
def newField (e : BitVec 32) : BitVec 32 :=
  IntOp.addi (field (one (F := F))) (IntOp.minsi (IntOp.maxsi e 4294966784#32) 512#32)

/-- `1.0 · 2^e`: the exponent field moved by `e`, a zero below the normal range and an infinity above it. -/
def pow2 (e : BitVec 32) : F .f32 :=
  FloatOps.ofBits .f32
    (Scalar.select (IntOp.cmpi .eq (field (one (F := F))) 255#32) (one (F := F))
      (Scalar.select (IntOp.cmpi .eq (field (one (F := F))) 0#32) (oneSign (F := F))
        (Scalar.select (IntOp.cmpi .sle (newField (F := F) e) 0#32) (oneSign (F := F))
          (Scalar.select (IntOp.cmpi .sge (newField (F := F) e) 255#32) (IntOp.ori (oneSign (F := F)) 2139095040#32)
            (IntOp.ori (IntOp.ori (oneSign (F := F)) (IntOp.shli .vector (newField (F := F) e) 23#32))
              (IntOp.andi (one (F := F)) 8388607#32))))))

/-- The scale of a group whose largest magnitude is `a`: `2^e`. -/
def scale (a : F .f32) : F .f32 := pow2 (expo a)

/-- The inverse of that scale: `2^(-e)`. -/
def inv (a : F .f32) : F .f32 := pow2 (IntOp.subi 0#32 (expo a))

/-- The code of a product `y` under the inverse scale `r`: `y · r` clipped to `[-448, 448]` and narrowed to 8 bits. -/
def code (y r : F .f32) : F .fp8e4m3 :=
  FloatOps.truncf .fp8e4m3 (by decide) (FloatOps.minimumf (FloatOps.ofBits .f32 0x43E00000#32)
    (FloatOps.maximumf (FloatOps.ofBits .f32 0xC3E00000#32) (FloatOps.mulf y r)))

/-! ## The two results as functions of the arguments -/

/-- The index `128 g + k` of the `k`-th entry of group `g` along an axis of 2048. -/
def col (g : Fin 16) (k : Fin 128) : Fin 2048 := ⟨128 * g.val + k.val, by omega⟩

/-- The group of an index along an axis of 2048. -/
def grp (h : Fin 2048) : Fin 16 := ⟨h.val / 128, by omega⟩

variable (a0 a1 : Vec F ⟨3, ![41, 1024, 2048]⟩ .bf16) (a2 : Vec F ⟨2, ![41, 1024]⟩ .f32)

/-- The product at example `b`, row `s`, column `h`. -/
def y (b : Fin 41) (s : Fin 1024) (h : Fin 2048) : F .f32 :=
  prod (a0 (ix3 b s h)) (a1 (ix3 b s h)) (a2 (ix2 b s))

variable [Std.Commutative (FloatOps.maximumf (F := F) (φ := .f32))] [Std.Associative (FloatOps.maximumf (F := F) (φ := .f32))]

/-- The largest magnitude of group `g` of row `s` of example `b`. -/
def top (b : Fin 41) (s : Fin 1024) (g : Fin 16) : F .f32 := amax fun k => y a0 a1 a2 b s (col g k)

/-- The array of codes. -/
def codes : Vec F ⟨3, ![41, 1024, 2048]⟩ .fp8e4m3 :=
  fun i => code (y a0 a1 a2 (i 0) (i 1) (i 2)) (inv (top a0 a1 a2 (i 0) (i 1) (grp (i 2))))

/-- The array of scales. -/
def scales : Vec F ⟨3, ![41, 1024, 16]⟩ .f32 :=
  fun i => scale (top a0 a1 a2 (i 0) (i 1) (i 2))

end Cert.Spec

end
-- ==== Proof.Ref.lean ====
/-
  The reference's two result arrays, entry by entry: the codes and the scales of `Spec`.
-/
module

public import proofs.«01_k».proof.Proof.Gen.Reference.Value
public import proofs.«01_k».proof.Proof.Spec

@[expose] public section

noncomputable section

namespace Cert.Reference.Read

open Idealize.ShloMosaic Idealize.ShloMosaic.ValueIdx Idealize.SL.Sem
open Cert.Reference Cert.Reference.Gen Cert.Spec

variable {F : FTy → Type} [BitOps F]

variable (a0 a1 : Vec F S41x1024x2048 .bf16) (a2 : Vec F S41x1024 .f32)

/-- The product the reference forms, in groups: entry `k` of group `g` is the product at column `128 g + k`. -/
theorem grouped (b : Fin 41) (s : Fin 1024) (g : Fin 16) (k : Fin 128) :
    k0_pay2 a0 a1 a2 (ix4 b s g k) = y a0 a1 a2 b s (col g k) := by
  unfold k0_pay2
  rw [shapeCast_apply _ _ (ix4 b s g k) (ix3 b s (col g k)) (by
    rw [Shape.rowMajor_val_three, Shape.rowMajor_val_four]
    show (b.val * 1024 + s.val) * 2048 + (128 * g.val + k.val) = ((b.val * 1024 + s.val) * 16 + g.val) * 128 + k.val
    omega)]
  have e : broadcastTo S41x1024x2048 (shapeCast S41x1024x1 a2 shapeCasts_S41x1024_S41x1024x1) broadcasts_S41x1024x1_S41x1024x2048 (ix3 b s (col g k))
      = a2 (ix2 b s) := by
    rw [broadcastTo_apply _ _ _ (ix3 b s (0 : Fin 1)) (fun a => by fin_cases a <;> rfl)]
    exact shapeCast_apply _ _ _ _ (by
      rw [Shape.rowMajor_val_three, Shape.rowMajor_val_two]
      show b.val * 1024 + s.val = (b.val * 1024 + s.val) * 1 + 0
      omega)
  show FloatOps.mulf _ (broadcastTo S41x1024x2048 (shapeCast S41x1024x1 a2 shapeCasts_S41x1024_S41x1024x1) broadcasts_S41x1024x1_S41x1024x2048 (ix3 b s (col g k))) = _
  rw [e]
  rfl

variable [Std.Commutative (FloatOps.maximumf (F := F) (φ := .f32))] [Std.Associative (FloatOps.maximumf (F := F) (φ := .f32))]

/-- The largest magnitude of each group. -/
theorem tops (b : Fin 41) (s : Fin 1024) (g : Fin 16) : k0_pay3 a0 a1 a2 (ix3 b s g) = top a0 a1 a2 b s g := by
  unfold k0_pay3 top amax
  refine (reduce_abs _ _ _ _ _).trans (Finset.fold_congr fun k _ => ?_)
  rw [show reduces_S41x1024x16x128_S41x1024x16.lift (ix3 b s g) k = ix4 b s g k from
    funext fun a => Fin.ext (by fin_cases a <;> rfl)]
  exact congrArg FloatOps.absf (grouped a0 a1 a2 b s g k)

theorem hz3 : (![0, 0, 0] : Fin 3 → Nat) = fun _ => 0 := funext fun a => by fin_cases a <;> rfl
theorem hz2 : (![0, 0] : Fin 2 → Nat) = fun _ => 0 := funext fun a => by fin_cases a <;> rfl

/-- The reference's second result is the array of scales. -/
theorem scales_eq : Value.G4 a0 a1 a2 = scales a0 a1 a2 := by
  funext i
  obtain ⟨b, s, g, rfl⟩ : ∃ (b : Fin 41) (s : Fin 1024) (g : Fin 16), i = ix3 b s g := ⟨_, _, _, eq_ix3 i⟩
  show _ = scale (top a0 a1 a2 b s g)
  rw [← tops]
  unfold Value.G4 k0_pay30 k0_pay31 k0_pay32 k0_pay33
  rw [View.ld_unit_zero (S := S41x1024x2048) hz3 _ a0, View.ld_unit_zero (S := S41x1024x2048) hz3 _ a1, View.ld_unit_zero (S := S41x1024) hz2 _ a2]
  rfl

set_option maxRecDepth 65536 in
/-- The reference's first result is the array of codes. -/
theorem codes_eq : Value.G3 a0 a1 a2 = codes a0 a1 a2 := by
  funext i
  obtain ⟨b, s, h, rfl⟩ : ∃ (b : Fin 41) (s : Fin 1024) (h : Fin 2048), i = ix3 b s h := ⟨_, _, _, eq_ix3 i⟩
  show _ = code (y a0 a1 a2 b s h) (inv (top a0 a1 a2 b s (grp h)))
  unfold Value.G3 k0_pay30 k0_pay31 k0_pay32 k0_pay33
  rw [View.ld_unit_zero (S := S41x1024x2048) hz3 _ a0, View.ld_unit_zero (S := S41x1024x2048) hz3 _ a1, View.ld_unit_zero (S := S41x1024) hz2 _ a2]
  unfold k0_pay1
  have hk : h.val % 128 < 128 := Nat.mod_lt _ (by decide)
  rw [shapeCast_apply _ _ (ix3 b s h) (ix4 b s (grp h) (⟨h.val % 128, hk⟩ : Fin 128)) (by
    rw [Shape.rowMajor_val_three, Shape.rowMajor_val_four]
    show ((b.val * 1024 + s.val) * 16 + h.val / 128) * 128 + h.val % 128 = (b.val * 1024 + s.val) * 2048 + h.val
    omega)]
  have ec : col (grp h) (⟨h.val % 128, hk⟩ : Fin 128) = h := Fin.ext (by show 128 * (h.val / 128) + h.val % 128 = h.val; omega)
  have eg := grouped a0 a1 a2 b s (grp h) (⟨h.val % 128, hk⟩ : Fin 128)
  rw [ec] at eg
  rw [← tops, ← eg]
  refine congrArg (fun r => code (k0_pay2 a0 a1 a2 (ix4 b s (grp h) (⟨h.val % 128, hk⟩ : Fin 128))) r) (?_ : broadcastTo _ _ _ _ = _)
  rw [broadcastTo_apply _ _ _ (ix4 b s (grp h) (0 : Fin 1)) (fun a => by fin_cases a <;> rfl)]
  rw [shapeCast_apply _ _ _ (ix3 b s (grp h)) (by
      rw [Shape.rowMajor_val_three, Shape.rowMajor_val_four]
      show (b.val * 1024 + s.val) * 16 + h.val / 128 = ((b.val * 1024 + s.val) * 16 + h.val / 128) * 1 + 0
      omega)]
  rfl

end Cert.Reference.Read

end
-- ==== Proof.Tile.lean ====
/-
  What one trip of the kernel's loop computes from its tile of 128 rows, entry by entry: the products, the largest
  magnitude of every group, the two powers of two, and the pieces of codes and scales it stores.
-/
module

public import proofs.«01_k».proof.Proof.Gen.Kernel.Skeleton
public import proofs.«01_k».proof.Proof.Spec

@[expose] public section

noncomputable section

namespace Cert.Kernel.Tile

open Idealize.ShloMosaic Idealize.ShloMosaic.ValueIdx Idealize.SL.Sem
open Cert.Kernel Cert.Kernel.Gen Cert.Spec

variable {F : FTy → Type} [BitOps F]

/-- A tile's product at row `r`, column `h`. -/
theorem prod_apply (v4 v8 : Vec F S1x128x2048 .bf16) (v12 : Vec F S1x1x128 .f32) (r : Fin 128) (h : Fin 2048) :
    k0_pay3 v4 v8 v12 (ix2 r h) = prod (v4 (ix3 0 r h)) (v8 (ix3 0 r h)) (v12 (ix3 0 0 r)) := by
  have e (v : Vec F S1x128x2048 .bf16) : shapeCast S128x2048 v shapeCasts_S1x128x2048_S128x2048 (ix2 r h) = v (ix3 0 r h) :=
    shapeCast_apply _ _ _ _ (by
      rw [Shape.rowMajor_val_three, Shape.rowMajor_val_two]
      show (0 * 128 + r.val) * 2048 + h.val = r.val * 2048 + h.val
      omega)
  have ew : broadcastTo S128x2048 (shapeCast S128x1 (shapeCast S1x128 v12 shapeCasts_S1x1x128_S1x128) shapeCasts_S1x128_S128x1)
      broadcasts_S128x1_S128x2048 (ix2 r h) = v12 (ix3 0 0 r) := by
    rw [broadcastTo_apply _ _ _ (ix2 r (0 : Fin 1)) (fun a => by fin_cases a <;> rfl)]
    rw [shapeCast_apply _ _ _ (ix2 (0 : Fin 1) r) (by
      rw [Shape.rowMajor_val_two, Shape.rowMajor_val_two]
      show 0 * 128 + r.val = r.val * 1 + 0
      omega)]
    exact shapeCast_apply _ _ _ _ (by
      rw [Shape.rowMajor_val_three, Shape.rowMajor_val_two]
      show (0 * 1 + 0) * 128 + r.val = 0 * 128 + r.val
      omega)
  unfold k0_pay3 prod
  rw [← e v4, ← e v8, ← ew]
  rfl

section Max

variable [Std.Commutative (FloatOps.maximumf (F := F) (φ := .f32))] [Std.Associative (FloatOps.maximumf (F := F) (φ := .f32))]

/-- One column of group maxima: the row's largest magnitude over the 128 columns from `128 g`. -/
theorem column (Y : FVec F S128x2048 .f32) (g : Fin 16) (n : Nat) (hn : n = 128 * g.val) (hs : S128x2048.Slices ![0, n] S128x128)
    (hr : S128x128.Reduces [1] S128) (hφ : FKind.Formats .f32) (hacc : 0xFF800000#32 = FKind.maximumf.neutral .f32 hφ)
    (hc : S128.ShapeCasts S128x1) (r : Fin 128) :
    shapeCast S128x1 (multiReduction .maximumf [1] S128 (absf (extractStridedSlice S128x128 ![0, n] Y hs)) 0xFF800000#32 hr hφ hacc) hc
      (ix2 r (0 : Fin 1)) = amax fun k => Y (ix2 r (col g k)) := by
  subst hn
  rw [shapeCast_apply _ hc (ix2 r (0 : Fin 1)) (ix1 r) (by
    rw [Shape.rowMajor_val_one, Shape.rowMajor_val_two]
    show r.val = r.val * 1 + 0
    omega)]
  have el (k : Fin 128) : hr.lift (ix1 r) k = ix2 r k := funext fun a => Fin.ext (by fin_cases a <;> rfl)
  have es (k : Fin 128) : extractStridedSlice S128x128 ![0, 128 * g.val] Y hs (ix2 r k) = Y (ix2 r (col g k)) :=
    extractStridedSlice_apply _ _ _ _ _ fun a => by
      fin_cases a
      · exact (Nat.zero_add _).symm
      · rfl
  unfold amax
  refine (reduce_abs _ _ _ _ _).trans (Finset.fold_congr fun k _ => congrArg FloatOps.absf ?_)
  exact (congrArg (extractStridedSlice S128x128 ![0, 128 * g.val] Y hs) (el k)).trans (es k)

omit [BitOps F] in
set_option maxRecDepth 8192 in
/-- Sixteen columns side by side, read at row `r` and column `g`: column `g` at row `r`. -/
theorem beside (w0 w1 w2 w3 w4 w5 w6 w7 w8 w9 w10 w11 w12 w13 w14 w15 : FVec F S128x1 .f32)
    (h : Shape.Concatenates (([⟨S128x1, w0⟩, ⟨S128x1, w1⟩, ⟨S128x1, w2⟩, ⟨S128x1, w3⟩, ⟨S128x1, w4⟩, ⟨S128x1, w5⟩, ⟨S128x1, w6⟩, ⟨S128x1, w7⟩, ⟨S128x1, w8⟩, ⟨S128x1, w9⟩, ⟨S128x1, w10⟩, ⟨S128x1, w11⟩, ⟨S128x1, w12⟩, ⟨S128x1, w13⟩, ⟨S128x1, w14⟩, ⟨S128x1, w15⟩] : List ((s : Shape) × (s.Idx → F .f32))).map (·.1)) S128x16 1)
    (r : Fin 128) (g : Fin 16) :
    concatenate S128x16 1 [⟨S128x1, w0⟩, ⟨S128x1, w1⟩, ⟨S128x1, w2⟩, ⟨S128x1, w3⟩, ⟨S128x1, w4⟩, ⟨S128x1, w5⟩, ⟨S128x1, w6⟩, ⟨S128x1, w7⟩, ⟨S128x1, w8⟩, ⟨S128x1, w9⟩, ⟨S128x1, w10⟩, ⟨S128x1, w11⟩, ⟨S128x1, w12⟩, ⟨S128x1, w13⟩, ⟨S128x1, w14⟩, ⟨S128x1, w15⟩] h (ix2 r g)
      = (![w0, w1, w2, w3, w4, w5, w6, w7, w8, w9, w10, w11, w12, w13, w14, w15] : Fin 16 → FVec F S128x1 .f32) g (ix2 r (0 : Fin 1)) := by
  refine concatenate_ofFn_unit_apply (t := S128x16) (s₁ := S128x1) 1
    (![w0, w1, w2, w3, w4, w5, w6, w7, w8, w9, w10, w11, w12, w13, w14, w15] : Fin 16 → FVec F S128x1 .f32) h rfl rfl (ix2 r g) g rfl (ix2 r (0 : Fin 1)) ?_
  intro b hb
  fin_cases b
  · rfl
  · exact absurd rfl hb

omit [BitOps F] in
/-- The same with each column's entry known. -/
theorem beside_eq (w0 w1 w2 w3 w4 w5 w6 w7 w8 w9 w10 w11 w12 w13 w14 w15 : FVec F S128x1 .f32)
    (h : Shape.Concatenates (([⟨S128x1, w0⟩, ⟨S128x1, w1⟩, ⟨S128x1, w2⟩, ⟨S128x1, w3⟩, ⟨S128x1, w4⟩, ⟨S128x1, w5⟩, ⟨S128x1, w6⟩, ⟨S128x1, w7⟩, ⟨S128x1, w8⟩, ⟨S128x1, w9⟩, ⟨S128x1, w10⟩, ⟨S128x1, w11⟩, ⟨S128x1, w12⟩, ⟨S128x1, w13⟩, ⟨S128x1, w14⟩, ⟨S128x1, w15⟩] : List ((s : Shape) × (s.Idx → F .f32))).map (·.1)) S128x16 1)
    (r : Fin 128) (g : Fin 16) (T : Fin 16 → F .f32) (h0 : w0 (ix2 r 0) = T 0) (h1 : w1 (ix2 r 0) = T 1) (h2 : w2 (ix2 r 0) = T 2) (h3 : w3 (ix2 r 0) = T 3) (h4 : w4 (ix2 r 0) = T 4) (h5 : w5 (ix2 r 0) = T 5) (h6 : w6 (ix2 r 0) = T 6) (h7 : w7 (ix2 r 0) = T 7) (h8 : w8 (ix2 r 0) = T 8) (h9 : w9 (ix2 r 0) = T 9) (h10 : w10 (ix2 r 0) = T 10) (h11 : w11 (ix2 r 0) = T 11) (h12 : w12 (ix2 r 0) = T 12) (h13 : w13 (ix2 r 0) = T 13) (h14 : w14 (ix2 r 0) = T 14) (h15 : w15 (ix2 r 0) = T 15) :
    concatenate S128x16 1 [⟨S128x1, w0⟩, ⟨S128x1, w1⟩, ⟨S128x1, w2⟩, ⟨S128x1, w3⟩, ⟨S128x1, w4⟩, ⟨S128x1, w5⟩, ⟨S128x1, w6⟩, ⟨S128x1, w7⟩, ⟨S128x1, w8⟩, ⟨S128x1, w9⟩, ⟨S128x1, w10⟩, ⟨S128x1, w11⟩, ⟨S128x1, w12⟩, ⟨S128x1, w13⟩, ⟨S128x1, w14⟩, ⟨S128x1, w15⟩] h (ix2 r g) = T g := by
  rw [beside]
  fin_cases g
  exacts [h0, h1, h2, h3, h4, h5, h6, h7, h8, h9, h10, h11, h12, h13, h14, h15]

/-- The 128-by-16 array of group maxima a trip forms from its products. -/
theorem tops_apply (v4 v8 : Vec F S1x128x2048 .bf16) (v12 : Vec F S1x1x128 .f32) (r : Fin 128) (g : Fin 16) :
    k0_pay11 (k0_pay3 v4 v8 v12) (k0_pay4 v4 v8 v12) (k0_pay5 v4 v8 v12) (k0_pay6 v4 v8 v12) (k0_pay7 v4 v8 v12) (k0_pay8 v4 v8 v12)
      (k0_pay9 v4 v8 v12) (k0_pay10 v4 v8 v12) (ix2 r g) = amax fun k => k0_pay3 v4 v8 v12 (ix2 r (col g k)) := by
  unfold k0_pay4 k0_pay5 k0_pay6 k0_pay7 k0_pay8 k0_pay9 k0_pay10
  generalize k0_pay3 v4 v8 v12 = Y
  unfold k0_pay11
  refine beside_eq _ _ _ _ _ _ _ _ _ _ _ _ _ _ _ _ _ r g (fun g => amax fun k => Y (ix2 r (col g k)))
    ?_ ?_ ?_ ?_ ?_ ?_ ?_ ?_ ?_ ?_ ?_ ?_ ?_ ?_ ?_ ?_
  · exact column Y 0 0 rfl _ _ _ _ _ r
  · exact column Y 1 128 rfl _ _ _ _ _ r
  · exact column Y 2 256 rfl _ _ _ _ _ r
  · exact column Y 3 384 rfl _ _ _ _ _ r
  · exact column Y 4 512 rfl _ _ _ _ _ r
  · exact column Y 5 640 rfl _ _ _ _ _ r
  · exact column Y 6 768 rfl _ _ _ _ _ r
  · exact column Y 7 896 rfl _ _ _ _ _ r
  · exact column Y 8 1024 rfl _ _ _ _ _ r
  · exact column Y 9 1152 rfl _ _ _ _ _ r
  · exact column Y 10 1280 rfl _ _ _ _ _ r
  · exact column Y 11 1408 rfl _ _ _ _ _ r
  · exact column Y 12 1536 rfl _ _ _ _ _ r
  · exact column Y 13 1664 rfl _ _ _ _ _ r
  · exact column Y 14 1792 rfl _ _ _ _ _ r
  · exact column Y 15 1920 rfl _ _ _ _ _ r

end Max

/-- The codes of one group of a tile: entry `(r, k)` of the piece for group `g` is the code of the product at column `128 g + k`
    under the group's inverse scale. -/
theorem piece (Y : FVec F S128x2048 .f32) (R : FVec F S128x16 .f32) (g : Fin 16) (n o : Nat) (hn : n = 128 * g.val) (ho : o = g.val)
    (hs : S128x2048.Slices ![0, n] S128x128) (hi : S128x16.Slices ![0, o] S128x1) (hb : S128x1.Broadcasts S128x128)
    (hl : FTy.fp8e4m3.bits < FTy.f32.bits) (hc : S128x128.ShapeCasts S1x128x128) (r k : Fin 128) :
    shapeCast S1x128x128 (truncf .fp8e4m3 (minimumf (broadcast S128x128 (FloatOps.ofBits .f32 0x43E00000#32))
      (maximumf (broadcast S128x128 (FloatOps.ofBits .f32 0xC3E00000#32))
        (mulf (extractStridedSlice S128x128 ![0, n] Y hs) (broadcastTo S128x128 (extractStridedSlice S128x1 ![0, o] R hi) hb)))) hl) hc
      (ix3 0 r k) = code (Y (ix2 r (col g k))) (R (ix2 r g)) := by
  subst hn ho
  rw [shapeCast_apply _ hc (ix3 0 r k) (ix2 r k) (by
    rw [Shape.rowMajor_val_three, Shape.rowMajor_val_two]
    show r.val * 128 + k.val = (0 * 128 + r.val) * 128 + k.val
    omega)]
  have e1 : extractStridedSlice S128x128 ![0, 128 * g.val] Y hs (ix2 r k) = Y (ix2 r (col g k)) :=
    extractStridedSlice_apply _ _ _ _ _ fun a => by
      fin_cases a
      · exact (Nat.zero_add _).symm
      · rfl
  have e2 : broadcastTo S128x128 (extractStridedSlice S128x1 ![0, g.val] R hi) hb (ix2 r k) = R (ix2 r g) := by
    rw [broadcastTo_apply _ _ _ (ix2 r (0 : Fin 1)) (fun a => by fin_cases a <;> rfl)]
    exact extractStridedSlice_apply _ _ _ _ _ fun a => by
      fin_cases a
      · exact (Nat.zero_add _).symm
      · rfl
  rw [← e1, ← e2]
  rfl

section Scales

variable (v19 : FVec F S128x2048 .f32) (v23 v27 v31 v35 v39 v43 : FVec F S128x1 .f32) (v45 : FVec F S128x128 .f32)

/-- The exponents of a tile's groups. -/
theorem expo_apply (i : S128x16.Idx) :
    k0_pay15 (F := F) (k0_pay11 v19 v23 v27 v31 v35 v39 v43 v45) (k0_pay12 v19 v23 v27 v31 v35 v39 v43 v45)
      (k0_pay13 v19 v23 v27 v31 v35 v39 v43 v45) k0_pay14 i = expo (k0_pay11 v19 v23 v27 v31 v35 v39 v43 v45 i) := by
  rfl

/-- `2^e` of a tile's exponents. -/
theorem pow2_apply (E : IVec S128x16 32) (i : S128x16.Idx) :
    k0_pay19 (F := F) E (k0_pay17 (F := F)) (k0_pay18 (F := F)) i = pow2 (E i) := by
  rfl

/-- `2^(-e)` of a tile's exponents. -/
theorem pow2_neg_apply (E : IVec S128x16 32) (i : S128x16.Idx) :
    k0_pay23 (F := F) (k0_pay20 E) (k0_pay21 (k0_pay16 (F := F))) (k0_pay22 (k0_pay16 (F := F))) i = pow2 (IntOp.subi 0#32 (E i)) := by
  rfl

/-- The scales as they are stored, groups by rows. -/
theorem turned (X : FVec F S128x16 .f32) (g : Fin 16) (r : Fin 128) : k0_pay24 X (ix3 0 g r) = X (ix2 r g) := by
  unfold k0_pay24
  rw [shapeCast_apply _ _ (ix3 0 g r) (ix2 g r) (by
    rw [Shape.rowMajor_val_three, Shape.rowMajor_val_two]
    show g.val * 128 + r.val = (0 * 16 + g.val) * 128 + r.val
    omega)]
  exact transpose_apply _ _ _ _ _ fun b => by fin_cases b <;> rfl

end Scales

/-- The exponents a trip forms from its three loads. -/
abbrev expos (v4 v8 : Vec F S1x128x2048 .bf16) (v12 : Vec F S1x1x128 .f32) : IVec S128x16 32 :=
  k0_pay15 (F := F)
    (k0_pay11 (k0_pay3 v4 v8 v12) (k0_pay4 v4 v8 v12) (k0_pay5 v4 v8 v12) (k0_pay6 v4 v8 v12) (k0_pay7 v4 v8 v12) (k0_pay8 v4 v8 v12)
      (k0_pay9 v4 v8 v12) (k0_pay10 v4 v8 v12))
    (k0_pay12 (k0_pay3 v4 v8 v12) (k0_pay4 v4 v8 v12) (k0_pay5 v4 v8 v12) (k0_pay6 v4 v8 v12) (k0_pay7 v4 v8 v12) (k0_pay8 v4 v8 v12)
      (k0_pay9 v4 v8 v12) (k0_pay10 v4 v8 v12))
    (k0_pay13 (k0_pay3 v4 v8 v12) (k0_pay4 v4 v8 v12) (k0_pay5 v4 v8 v12) (k0_pay6 v4 v8 v12) (k0_pay7 v4 v8 v12) (k0_pay8 v4 v8 v12)
      (k0_pay9 v4 v8 v12) (k0_pay10 v4 v8 v12)) k0_pay14

/-- The scales a trip forms, rows by groups. -/
abbrev scalesT (v4 v8 : Vec F S1x128x2048 .bf16) (v12 : Vec F S1x1x128 .f32) : FVec F S128x16 .f32 :=
  k0_pay19 (expos v4 v8 v12) (k0_pay17 (F := F)) (k0_pay18 (F := F))

/-- The inverse scales a trip forms, rows by groups. -/
abbrev invsT (v4 v8 : Vec F S1x128x2048 .bf16) (v12 : Vec F S1x1x128 .f32) : FVec F S128x16 .f32 :=
  k0_pay23 (F := F) (k0_pay20 (expos v4 v8 v12)) (k0_pay21 (k0_pay16 (F := F))) (k0_pay22 (k0_pay16 (F := F)))

section Max

variable [Std.Commutative (FloatOps.maximumf (F := F) (φ := .f32))] [Std.Associative (FloatOps.maximumf (F := F) (φ := .f32))]

/-- A trip's exponents, entry by entry. -/
theorem expos_apply (v4 v8 : Vec F S1x128x2048 .bf16) (v12 : Vec F S1x1x128 .f32) (r : Fin 128) (g : Fin 16) :
    expos v4 v8 v12 (ix2 r g) = expo (amax fun k => k0_pay3 v4 v8 v12 (ix2 r (col g k))) :=
  (expo_apply _ _ _ _ _ _ _ _ _).trans (congrArg expo (tops_apply v4 v8 v12 r g))

/-- A trip's scales, entry by entry. -/
theorem scalesT_apply (v4 v8 : Vec F S1x128x2048 .bf16) (v12 : Vec F S1x1x128 .f32) (r : Fin 128) (g : Fin 16) :
    scalesT v4 v8 v12 (ix2 r g) = scale (amax fun k => k0_pay3 v4 v8 v12 (ix2 r (col g k))) :=
  (pow2_apply _ _).trans (congrArg pow2 (expos_apply v4 v8 v12 r g))

/-- A trip's inverse scales, entry by entry. -/
theorem invsT_apply (v4 v8 : Vec F S1x128x2048 .bf16) (v12 : Vec F S1x1x128 .f32) (r : Fin 128) (g : Fin 16) :
    invsT v4 v8 v12 (ix2 r g) = inv (amax fun k => k0_pay3 v4 v8 v12 (ix2 r (col g k))) :=
  (pow2_neg_apply _ _).trans (congrArg (fun e => pow2 (IntOp.subi 0#32 e)) (expos_apply v4 v8 v12 r g))

end Max

end Cert.Kernel.Tile

end
-- ==== Proof.Block.lean ====
/-
  What one grid point leaves in its two output blocks, as functions of its three input blocks: the loop's two trips write the
  codes and the scales of 128 rows each.
-/
module

public import proofs.«01_k».proof.Proof.Gen.Kernel.Frame
public import proofs.«01_k».proof.Proof.Tile
public import Idealize.ShloMosaic.Lib.Pipeline.Value
public import Idealize.ShloMosaic.Lib.Pipeline.ValueKit

@[expose] public section

noncomputable section

namespace Cert.Kernel.Block

open Idealize.ShloMosaic hiding ix1 ix2 ix3 eq_ix1 eq_ix2 eq_ix3
open Idealize.ShloMosaic.TcCoe Idealize.ShloMosaic.Tactic Idealize.ShloMosaic.ValueIdx Idealize.SL.Sem
open Cert.Kernel Cert.Kernel.Gen Cert.Kernel.Tile Cert.Spec

variable {F : FTy → Type} [BitOps F]
  [Std.Commutative (FloatOps.maximumf (F := F) (φ := .f32))] [Std.Associative (FloatOps.maximumf (F := F) (φ := .f32))]

variable (x0 x1 : Vec F S1x256x2048 .bf16) (x2 : Vec F S1x1x256 .f32)

omit [Std.Commutative (FloatOps.maximumf (F := F) (φ := .f32))] [Std.Associative (FloatOps.maximumf (F := F) (φ := .f32))] in
/-- The product at row `r`, column `h` of a point's block. -/
def yB (r : Fin 256) (h : Fin 2048) : F .f32 := prod (x0 (ix3 0 r h)) (x1 (ix3 0 r h)) (x2 (ix3 0 0 r))

/-- The codes of a point's block. -/
def codesB : Vec F S1x256x2048 .fp8e4m3 := fun i =>
  code (yB x0 x1 x2 (i 1) (i 2)) (inv (amax fun k => yB x0 x1 x2 (i 1) (col (grp (i 2)) k)))

/-- The scales of a point's block, groups by rows. -/
def scalesB : Vec F S1x16x256 .f32 := fun i => scale (amax fun k => yB x0 x1 x2 (i 2) (col (i 1) k))

/-- Row `r` of trip `k`, as a row of the block. -/
def row (k : Fin k0_t1_loop.trips) (r : Fin 128) : Fin 256 :=
  ⟨128 * k.val + r.val, by have := Nat.lt_of_lt_of_le k.isLt k0_t1_abs.2.1; omega⟩

section Trip

variable (k : Fin k0_t1_loop.trips) (v4 v8 : Vec F S1x128x2048 .bf16) (v12 : Vec F S1x1x128 .f32)
  (h4 : ∀ r h, v4 (ix3 0 r h) = x0 (ix3 0 (row k r) h)) (h8 : ∀ r h, v8 (ix3 0 r h) = x1 (ix3 0 (row k r) h))
  (h12 : ∀ r, v12 (ix3 0 0 r) = x2 (ix3 0 0 (row k r)))

include h4 h8 h12

omit [Std.Commutative (FloatOps.maximumf (F := F) (φ := .f32))] [Std.Associative (FloatOps.maximumf (F := F) (φ := .f32))] in
/-- A trip's products are the block's at its rows. -/
theorem prod_row (r : Fin 128) (h : Fin 2048) : k0_pay3 v4 v8 v12 (ix2 r h) = yB x0 x1 x2 (row k r) h := by
  rw [prod_apply, h4, h8, h12]
  rfl

/-- A trip's group maxima are the block's at its rows. -/
theorem amax_row (r : Fin 128) (g : Fin 16) :
    amax (fun l => k0_pay3 v4 v8 v12 (ix2 r (col g l))) = amax fun l => yB x0 x1 x2 (row k r) (col g l) :=
  congrArg amax (funext fun l => prod_row x0 x1 x2 k v4 v8 v12 h4 h8 h12 r (col g l))

/-- A stored piece of codes, of group `g`, is the block's codes at its place. -/
theorem codes_piece (g : Fin 16) (off : Fin 3 → Nat) (hoff : off = ![0, 128 * k.val, 128 * g.val]) (inb)
    (pay : S1x128x128.Idx → F .fp8e4m3)
    (hpay : ∀ r l : Fin 128, pay (ix3 0 r l) = code (k0_pay3 v4 v8 v12 (ix2 r (col g l))) (invsT v4 v8 v12 (ix2 r g)))
    (x : S1x128x128.Idx) : pay x = codesB x0 x1 x2 ((Rect.unit (s := S1x256x2048) off S1x128x128.size inb).emb x) := by
  subst hoff
  obtain ⟨z, r, l, rfl⟩ : ∃ (z : Fin 1) (r l : Fin 128), x = ix3 z r l := ⟨_, _, _, eq_ix3 x⟩
  obtain rfl : z = 0 := Subsingleton.elim _ _
  have e : (Rect.unit (s := S1x256x2048) ![0, 128 * k.val, 128 * g.val] S1x128x128.size inb).emb (ix3 0 r l)
      = ix3 (0 : Fin 1) (row k r) (col g l) := funext fun a => Fin.ext ((ValueKit.rect_emb_unit_val _ _ inb _ a).trans (by
    fin_cases a <;> rfl))
  have eg : grp (col g l) = g := Fin.ext (by show (128 * g.val + l.val) / 128 = g.val; omega)
  rw [hpay, invsT_apply, amax_row x0 x1 x2 k v4 v8 v12 h4 h8 h12, prod_row x0 x1 x2 k v4 v8 v12 h4 h8 h12]
  refine Eq.trans ?_ (congrArg (codesB x0 x1 x2) e).symm
  show _ = code (yB x0 x1 x2 (row k r) (col g l)) (inv (amax fun j => yB x0 x1 x2 (row k r) (col (grp (col g l)) j)))
  rw [eg]

/-- The stored piece of scales is the block's scales at its place. -/
theorem scales_piece (off : Fin 3 → Nat) (hoff : off = ![0, 0, 128 * k.val]) (inb) (pay : S1x16x128.Idx → F .f32)
    (hpay : ∀ (g : Fin 16) (r : Fin 128), pay (ix3 0 g r) = scalesT v4 v8 v12 (ix2 r g))
    (x : S1x16x128.Idx) : pay x = scalesB x0 x1 x2 ((Rect.unit (s := S1x16x256) off S1x16x128.size inb).emb x) := by
  subst hoff
  obtain ⟨z, g, r, rfl⟩ : ∃ (z : Fin 1) (g : Fin 16) (r : Fin 128), x = ix3 z g r := ⟨_, _, _, eq_ix3 x⟩
  obtain rfl : z = 0 := Subsingleton.elim _ _
  have e : (Rect.unit (s := S1x16x256) ![0, 0, 128 * k.val] S1x16x128.size inb).emb (ix3 0 g r)
      = ix3 (0 : Fin 1) g (row k r) := funext fun a => Fin.ext ((ValueKit.rect_emb_unit_val _ _ inb _ a).trans (by
    fin_cases a
    · rfl
    · exact Nat.zero_add _
    · rfl))
  rw [hpay, scalesT_apply, amax_row x0 x1 x2 k v4 v8 v12 h4 h8 h12]
  exact (congrArg (scalesB x0 x1 x2) e).symm

end Trip

variable (c : Dev nD) (i : grid0.Coords) (arg2 : Memref sig .tc .vmem S1x256x2048 .bf16) (harg2 : arg2.IsWhole) (arg3 : Memref sig .tc .vmem S1x256x2048 .bf16) (harg3 : arg3.IsWhole)
    (arg4 : Memref sig .tc .vmem S1x1x256 .f32) (harg4 : arg4.IsWhole) (arg5 : Memref sig .tc .vmem S1x256x2048 .fp8e4m3) (harg5 : arg5.IsWhole)
    (arg6 : Memref sig .tc .vmem S1x16x256 .f32) (harg6 : arg6.IsWhole)

omit [Std.Commutative (FloatOps.maximumf (F := F) (φ := .f32))] [Std.Associative (FloatOps.maximumf (F := F) (φ := .f32))] in
/-- A trip's load of the first operand. -/
theorem load0 (k : Fin k0_t1_loop.trips) (inb) (r : Fin 128) (h : Fin 2048) :
    View.readAt (Elt F) arg2.view (Rect.unit (s := S1x256x2048) (k0_off1 k) S1x128x2048.size inb).toLoadRect (harg2.unread x0) (ix3 0 r h)
      = x0 (ix3 0 (row k r) h) := by
  refine (congrFun (View.readAt_eq_ld _ _ _) _).trans ?_
  rw [harg2.read_unread]
  refine View.ld_unit_apply_of _ _ _ inb _ _ fun a => ?_
  refine Eq.trans ?_ (congrArg (· + _) (congrFun (k0_off1_eq k) a).symm)
  fin_cases a
  · rfl
  · rfl
  · exact (Nat.zero_add _).symm

omit [Std.Commutative (FloatOps.maximumf (F := F) (φ := .f32))] [Std.Associative (FloatOps.maximumf (F := F) (φ := .f32))] in
/-- A trip's load of the weights. -/
theorem load2 (k : Fin k0_t1_loop.trips) (inb) (r : Fin 128) :
    View.readAt (Elt F) arg4.view (Rect.unit (s := S1x1x256) (k0_off2 k) S1x1x128.size inb).toLoadRect (harg4.unread x2) (ix3 0 0 r)
      = x2 (ix3 0 0 (row k r)) := by
  refine (congrFun (View.readAt_eq_ld _ _ _) _).trans ?_
  rw [harg4.read_unread]
  refine View.ld_unit_apply_of _ _ _ inb _ _ fun a => ?_
  refine Eq.trans ?_ (congrArg (· + _) (congrFun (k0_off2_eq k) a).symm)
  fin_cases a <;> rfl

set_option maxRecDepth 16384 in
/-- Every piece of codes one trip stores is the block's codes at its place. -/
theorem trip_codes (k : Fin k0_t1_loop.trips) :
    ∀ p ∈ (tripL_k0_t1 (F := F) Variants.none c none i arg2 harg2 arg3 harg3 arg4 harg4 arg5 harg5 arg6 harg6 (harg2.unread x0) (harg3.unread x1) (harg4.unread x2) k).1,
      ∀ x : p.1.shape.Idx, p.2 x = codesB x0 x1 x2 (p.1.emb x) := by
  unfold tripL_k0_t1
  unfold trip_k0_t1
  dsimp only
  sl_unfold_run_names
  have h4 := load0 x0 arg2 harg2 k (k0_off1_inb k)
  have h8 := load0 x1 arg3 harg3 k (k0_off1_inb k)
  have h12 := load2 x2 arg4 harg4 k (k0_off2_inb k)
  generalize View.readAt (Elt F) arg2.view (Rect.unit (s := S1x256x2048) (k0_off1 k) S1x128x2048.size (k0_off1_inb k)).toLoadRect (harg2.unread x0) = v4 at *
  generalize View.readAt (Elt F) arg3.view (Rect.unit (s := S1x256x2048) (k0_off1 k) S1x128x2048.size (k0_off1_inb k)).toLoadRect (harg3.unread x1) = v8 at *
  generalize View.readAt (Elt F) arg4.view (Rect.unit (s := S1x1x256) (k0_off2 k) S1x1x128.size (k0_off2_inb k)).toLoadRect (harg4.unread x2) = v12 at *
  refine List.forall_mem_cons.2 ⟨codes_piece x0 x1 x2 k v4 v8 v12 h4 h8 h12 15 _ (k0_off19_eq k) (k0_off19_inb k) _ fun r l => ?_, ?_⟩
  · exact piece (k0_pay3 v4 v8 v12) (invsT v4 v8 v12) 15 1920 15 rfl rfl _ _ _ _ _ r l
  refine List.forall_mem_cons.2 ⟨codes_piece x0 x1 x2 k v4 v8 v12 h4 h8 h12 14 _ (k0_off18_eq k) (k0_off18_inb k) _ fun r l => ?_, ?_⟩
  · exact piece (k0_pay3 v4 v8 v12) (invsT v4 v8 v12) 14 1792 14 rfl rfl _ _ _ _ _ r l
  refine List.forall_mem_cons.2 ⟨codes_piece x0 x1 x2 k v4 v8 v12 h4 h8 h12 13 _ (k0_off17_eq k) (k0_off17_inb k) _ fun r l => ?_, ?_⟩
  · exact piece (k0_pay3 v4 v8 v12) (invsT v4 v8 v12) 13 1664 13 rfl rfl _ _ _ _ _ r l
  refine List.forall_mem_cons.2 ⟨codes_piece x0 x1 x2 k v4 v8 v12 h4 h8 h12 12 _ (k0_off16_eq k) (k0_off16_inb k) _ fun r l => ?_, ?_⟩
  · exact piece (k0_pay3 v4 v8 v12) (invsT v4 v8 v12) 12 1536 12 rfl rfl _ _ _ _ _ r l
  refine List.forall_mem_cons.2 ⟨codes_piece x0 x1 x2 k v4 v8 v12 h4 h8 h12 11 _ (k0_off15_eq k) (k0_off15_inb k) _ fun r l => ?_, ?_⟩
  · exact piece (k0_pay3 v4 v8 v12) (invsT v4 v8 v12) 11 1408 11 rfl rfl _ _ _ _ _ r l
  refine List.forall_mem_cons.2 ⟨codes_piece x0 x1 x2 k v4 v8 v12 h4 h8 h12 10 _ (k0_off14_eq k) (k0_off14_inb k) _ fun r l => ?_, ?_⟩
  · exact piece (k0_pay3 v4 v8 v12) (invsT v4 v8 v12) 10 1280 10 rfl rfl _ _ _ _ _ r l
  refine List.forall_mem_cons.2 ⟨codes_piece x0 x1 x2 k v4 v8 v12 h4 h8 h12 9 _ (k0_off13_eq k) (k0_off13_inb k) _ fun r l => ?_, ?_⟩
  · exact piece (k0_pay3 v4 v8 v12) (invsT v4 v8 v12) 9 1152 9 rfl rfl _ _ _ _ _ r l
  refine List.forall_mem_cons.2 ⟨codes_piece x0 x1 x2 k v4 v8 v12 h4 h8 h12 8 _ (k0_off12_eq k) (k0_off12_inb k) _ fun r l => ?_, ?_⟩
  · exact piece (k0_pay3 v4 v8 v12) (invsT v4 v8 v12) 8 1024 8 rfl rfl _ _ _ _ _ r l
  refine List.forall_mem_cons.2 ⟨codes_piece x0 x1 x2 k v4 v8 v12 h4 h8 h12 7 _ (k0_off11_eq k) (k0_off11_inb k) _ fun r l => ?_, ?_⟩
  · exact piece (k0_pay3 v4 v8 v12) (invsT v4 v8 v12) 7 896 7 rfl rfl _ _ _ _ _ r l
  refine List.forall_mem_cons.2 ⟨codes_piece x0 x1 x2 k v4 v8 v12 h4 h8 h12 6 _ (k0_off10_eq k) (k0_off10_inb k) _ fun r l => ?_, ?_⟩
  · exact piece (k0_pay3 v4 v8 v12) (invsT v4 v8 v12) 6 768 6 rfl rfl _ _ _ _ _ r l
  refine List.forall_mem_cons.2 ⟨codes_piece x0 x1 x2 k v4 v8 v12 h4 h8 h12 5 _ (k0_off9_eq k) (k0_off9_inb k) _ fun r l => ?_, ?_⟩
  · exact piece (k0_pay3 v4 v8 v12) (invsT v4 v8 v12) 5 640 5 rfl rfl _ _ _ _ _ r l
  refine List.forall_mem_cons.2 ⟨codes_piece x0 x1 x2 k v4 v8 v12 h4 h8 h12 4 _ (k0_off8_eq k) (k0_off8_inb k) _ fun r l => ?_, ?_⟩
  · exact piece (k0_pay3 v4 v8 v12) (invsT v4 v8 v12) 4 512 4 rfl rfl _ _ _ _ _ r l
  refine List.forall_mem_cons.2 ⟨codes_piece x0 x1 x2 k v4 v8 v12 h4 h8 h12 3 _ (k0_off7_eq k) (k0_off7_inb k) _ fun r l => ?_, ?_⟩
  · exact piece (k0_pay3 v4 v8 v12) (invsT v4 v8 v12) 3 384 3 rfl rfl _ _ _ _ _ r l
  refine List.forall_mem_cons.2 ⟨codes_piece x0 x1 x2 k v4 v8 v12 h4 h8 h12 2 _ (k0_off6_eq k) (k0_off6_inb k) _ fun r l => ?_, ?_⟩
  · exact piece (k0_pay3 v4 v8 v12) (invsT v4 v8 v12) 2 256 2 rfl rfl _ _ _ _ _ r l
  refine List.forall_mem_cons.2 ⟨codes_piece x0 x1 x2 k v4 v8 v12 h4 h8 h12 1 _ (k0_off5_eq k) (k0_off5_inb k) _ fun r l => ?_, ?_⟩
  · exact piece (k0_pay3 v4 v8 v12) (invsT v4 v8 v12) 1 128 1 rfl rfl _ _ _ _ _ r l
  refine List.forall_mem_cons.2 ⟨codes_piece x0 x1 x2 k v4 v8 v12 h4 h8 h12 0 _ (k0_off4_eq k) (k0_off4_inb k) _ fun r l => ?_, ?_⟩
  · exact piece (k0_pay3 v4 v8 v12) (invsT v4 v8 v12) 0 0 0 rfl rfl _ _ _ _ _ r l
  exact fun _ h => absurd h List.not_mem_nil

set_option maxRecDepth 16384 in
/-- The piece of scales one trip stores is the block's scales at its place. -/
theorem trip_scales (k : Fin k0_t1_loop.trips) :
    ∀ p ∈ (tripL_k0_t1 (F := F) Variants.none c none i arg2 harg2 arg3 harg3 arg4 harg4 arg5 harg5 arg6 harg6 (harg2.unread x0) (harg3.unread x1) (harg4.unread x2) k).2,
      ∀ x : p.1.shape.Idx, p.2 x = scalesB x0 x1 x2 (p.1.emb x) := by
  unfold tripL_k0_t1
  unfold trip_k0_t1
  dsimp only
  sl_unfold_run_names
  have h4 := load0 x0 arg2 harg2 k (k0_off1_inb k)
  have h8 := load0 x1 arg3 harg3 k (k0_off1_inb k)
  have h12 := load2 x2 arg4 harg4 k (k0_off2_inb k)
  generalize View.readAt (Elt F) arg2.view (Rect.unit (s := S1x256x2048) (k0_off1 k) S1x128x2048.size (k0_off1_inb k)).toLoadRect (harg2.unread x0) = v4 at *
  generalize View.readAt (Elt F) arg3.view (Rect.unit (s := S1x256x2048) (k0_off1 k) S1x128x2048.size (k0_off1_inb k)).toLoadRect (harg3.unread x1) = v8 at *
  generalize View.readAt (Elt F) arg4.view (Rect.unit (s := S1x1x256) (k0_off2 k) S1x1x128.size (k0_off2_inb k)).toLoadRect (harg4.unread x2) = v12 at *
  refine List.forall_mem_cons.2 ⟨scales_piece x0 x1 x2 k v4 v8 v12 h4 h8 h12 _ (k0_off3_eq k) (k0_off3_inb k) _ fun g r => ?_, ?_⟩
  · exact turned (scalesT v4 v8 v12) g r
  exact fun _ h => absurd h List.not_mem_nil

/-- So are the pieces of any number of trips. -/
theorem trips_pieces (n : Nat) (hn : n ≤ k0_t1_loop.trips) :
    (∀ p ∈ (pb_k0_t1 (F := F) Variants.none c none i arg2 harg2 arg3 harg3 arg4 harg4 arg5 harg5 arg6 harg6 (harg2.unread x0) (harg3.unread x1) (harg4.unread x2) n).1,
      ∀ x : p.1.shape.Idx, p.2 x = codesB x0 x1 x2 (p.1.emb x))
    ∧ ∀ p ∈ (pb_k0_t1 (F := F) Variants.none c none i arg2 harg2 arg3 harg3 arg4 harg4 arg5 harg5 arg6 harg6 (harg2.unread x0) (harg3.unread x1) (harg4.unread x2) n).2,
      ∀ x : p.1.shape.Idx, p.2 x = scalesB x0 x1 x2 (p.1.emb x) := by
  induction n with
  | zero => exact ⟨fun _ h => absurd h List.not_mem_nil, fun _ h => absurd h List.not_mem_nil⟩
  | succ n ih =>
    obtain ⟨ih1, ih2⟩ := ih (by omega)
    rw [pb_k0_t1_succ Variants.none c none i arg2 harg2 arg3 harg3 arg4 harg4 arg5 harg5 arg6 harg6 (harg2.unread x0) (harg3.unread x1) (harg4.unread x2) ⟨n, hn⟩]
    refine ⟨fun p h => ?_, fun p h => ?_⟩
    · exact (List.mem_append.1 h).elim (trip_codes x0 x1 x2 c i arg2 harg2 arg3 harg3 arg4 harg4 arg5 harg5 arg6 harg6 ⟨n, hn⟩ p) (ih1 p)
    · exact (List.mem_append.1 h).elim (trip_scales x0 x1 x2 c i arg2 harg2 arg3 harg3 arg4 harg4 arg5 harg5 arg6 harg6 ⟨n, hn⟩ p) (ih2 p)

/-- The codes block a point leaves. -/
theorem out_codes : out0_A_3 c i arg2 harg2 arg3 harg3 arg4 harg4 arg5 harg5 arg6 harg6 x0 x1 x2 = codesB x0 x1 x2 := by
  unfold out0_A_3
  rw [View.read_writes_junk_eq_canon]
  refine funext fun y => View.canon_apply_of_pieces _ _ ?_ y (cover0_A_3 c i arg2 harg2 arg3 harg3 arg4 harg4 arg5 harg5 arg6 harg6 x0 x1 x2 y)
  unfold kernelRun0_A
  dsimp only
  sl_unfold_run_names
  exact (trips_pieces x0 x1 x2 c i arg2 harg2 arg3 harg3 arg4 harg4 arg5 harg5 arg6 harg6 k0_t1_loop.trips le_rfl).1

/-- The scales block a point leaves. -/
theorem out_scales : out0_A_4 c i arg2 harg2 arg3 harg3 arg4 harg4 arg5 harg5 arg6 harg6 x0 x1 x2 = scalesB x0 x1 x2 := by
  unfold out0_A_4
  rw [View.read_writes_junk_eq_canon]
  refine funext fun y => View.canon_apply_of_pieces _ _ ?_ y (cover0_A_4 c i arg2 harg2 arg3 harg3 arg4 harg4 arg5 harg5 arg6 harg6 x0 x1 x2 y)
  unfold kernelRun0_A
  dsimp only
  sl_unfold_run_names
  exact (trips_pieces x0 x1 x2 c i arg2 harg2 arg3 harg3 arg4 harg4 arg5 harg5 arg6 harg6 k0_t1_loop.trips le_rfl).2

end Cert.Kernel.Block

end
-- ==== Proof.Arrays.lean ====
/-
  What the kernel's arrays hold after a run: each grid point's blocks are read off the arguments and written back to their
  place, the blocks cover the two output arrays, and the last line turns the scales.
-/
module

public import proofs.«01_k».proof.Proof.Block

@[expose] public section

noncomputable section

namespace Cert.Kernel.Arrays

open Idealize.ShloMosaic hiding ix1 ix2 ix3 eq_ix1 eq_ix2 eq_ix3
open Idealize.ShloMosaic.TcCoe Idealize.ShloMosaic.ValueIdx Idealize.ShloMosaic.StableHlo Idealize.SL.Sem
open Cert.Kernel Cert.Kernel.Gen Cert.Kernel.Block Cert.Spec

variable {F : FTy → Type} [BitOps F]
  [Std.Commutative (FloatOps.maximumf (F := F) (φ := .f32))] [Std.Associative (FloatOps.maximumf (F := F) (φ := .f32))]

/-! ## Where a point's blocks lie -/

/-- The example of grid point `t`. -/
def exOf (t : Fin cfg0.N) : Fin 41 := ⟨t.val / 4, by have : t.val < 164 := t.isLt; omega⟩

/-- Row `r` of grid point `t`'s block, as a row of the array. -/
def rowOf (t : Fin cfg0.N) (r : Fin 256) : Fin 1024 := ⟨t.val % 4 * 256 + r.val, by omega⟩

/-- The index maps of the five windows at grid point `t`. -/
theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem index2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem index3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem index4 : ∀ t : Fin cfg0.N, win0_4.index t (0 : Fin 3) = t.val / 4 ∧ win0_4.index t (1 : Fin 3) = 0 ∧ win0_4.index t (2 : Fin 3) = t.val % 4 :=
  (by decide +kernel : ∀ t : Fin grid0.N, _)

/-- An index of a block of the gate array, as an index of the array. -/
theorem emb0 (t : Fin cfg0.N) (r : Fin 256) (h : Fin 2048) :
    ((cfg0.win 0).blk t).view.emb (ix3 (0 : Fin 1) r h) = ix3 (exOf t) (rowOf t r) h := by
  obtain ⟨e0, e1, e2⟩ := index0 t
  funext a; apply Fin.ext
  match a with
  | ⟨0, _⟩ => show win0_0.index t (0 : Fin 3) * 1 + 1 * 0 = t.val / 4; omega
  | ⟨1, _⟩ => show win0_0.index t (1 : Fin 3) * 256 + 1 * r.val = t.val % 4 * 256 + r.val; omega
  | ⟨2, _⟩ => show win0_0.index t (2 : Fin 3) * 2048 + 1 * h.val = h.val; omega

/-- The same for the second operand. -/
theorem emb1 (t : Fin cfg0.N) (r : Fin 256) (h : Fin 2048) :
    ((cfg0.win 1).blk t).view.emb (ix3 (0 : Fin 1) r h) = ix3 (exOf t) (rowOf t r) h := by
  obtain ⟨e0, e1, e2⟩ := index1 t
  funext a; apply Fin.ext
  match a with
  | ⟨0, _⟩ => show win0_1.index t (0 : Fin 3) * 1 + 1 * 0 = t.val / 4; omega
  | ⟨1, _⟩ => show win0_1.index t (1 : Fin 3) * 256 + 1 * r.val = t.val % 4 * 256 + r.val; omega
  | ⟨2, _⟩ => show win0_1.index t (2 : Fin 3) * 2048 + 1 * h.val = h.val; omega

/-- The same for the row weights. -/
theorem emb2 (t : Fin cfg0.N) (r : Fin 256) :
    ((cfg0.win 2).blk t).view.emb (ix3 (0 : Fin 1) (0 : Fin 1) r) = ix3 (exOf t) (0 : Fin 1) (rowOf t r) := by
  obtain ⟨e0, e1, e2⟩ := index2 t
  funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 256 + 1 * r.val = t.val % 4 * 256 + r.val; omega

/-- The same for the codes. -/
theorem emb3 (t : Fin cfg0.N) (r : Fin 256) (h : Fin 2048) :
    ((cfg0.win 3).blk t).view.emb (ix3 (0 : Fin 1) r h) = ix3 (exOf t) (rowOf t r) h := by
  obtain ⟨e0, e1, e2⟩ := index3 t
  funext a; apply Fin.ext
  match a with
  | ⟨0, _⟩ => show win0_3.index t (0 : Fin 3) * 1 + 1 * 0 = t.val / 4; omega
  | ⟨1, _⟩ => show win0_3.index t (1 : Fin 3) * 256 + 1 * r.val = t.val % 4 * 256 + r.val; omega
  | ⟨2, _⟩ => show win0_3.index t (2 : Fin 3) * 2048 + 1 * h.val = h.val; omega

/-- The same for the scales, which the kernel writes groups by rows. -/
theorem emb4 (t : Fin cfg0.N) (g : Fin 16) (r : Fin 256) :
    ((cfg0.win 4).blk t).view.emb (ix3 (0 : Fin 1) g r) = ix3 (exOf t) g (rowOf t r) := by
  obtain ⟨e0, e1, e2⟩ := index4 t
  funext a; apply Fin.ext
  match a with
  | ⟨0, _⟩ => show win0_4.index t (0 : Fin 3) * 1 + 1 * 0 = t.val / 4; omega
  | ⟨1, _⟩ => show win0_4.index t (1 : Fin 3) * 16 + 1 * g.val = g.val; omega
  | ⟨2, _⟩ => show win0_4.index t (2 : Fin 3) * 256 + 1 * r.val = t.val % 4 * 256 + r.val; omega

variable (m : (ℓ : Loc nD τ sig) → Buf (Elt F) ℓ) (ρ : Dev nD → PrngReg) (c : Dev nD)

/-- The argument arrays as launched. -/
abbrev gate : Vec F S41x1024x2048 .bf16 := m ((c : Thread nD τ).loc main_arg0)
abbrev up : Vec F S41x1024x2048 .bf16 := m ((c : Thread nD τ).loc main_arg1)
abbrev weight : Vec F S41x1024 .f32 := m ((c : Thread nD τ).loc main_arg2)

omit [Std.Commutative (FloatOps.maximumf (F := F) (φ := .f32))] [Std.Associative (FloatOps.maximumf (F := F) (φ := .f32))] in
/-- The reshaped weights the region finds. -/
theorem weights_eq (b : Fin 41) (s : Fin 1024) : (V m c main_v0 : Vec F S41x1x1024 .f32) (ix3 b (0 : Fin 1) s) = weight m c (ix2 b s) := by
  have e : (V m c main_v0 : Vec F S41x1x1024 .f32) = shapeCast S41x1x1024 (weight m c) shapeCasts_S41x1024_S41x1x1024 := by
    show after (List.flatten [hostOps0]) (fun b => m (c, b)) (Proc.devRef .tc main_v0) = _
    simp only [List.flatten_cons, List.flatten_nil, List.append_nil]
    after_results
    rfl
  rw [e]
  exact shapeCast_apply _ _ _ _ (by
    rw [Shape.rowMajor_val_three, Shape.rowMajor_val_two]
    show b.val * 1024 + s.val = (b.val * 1 + 0) * 1024 + s.val
    omega)

omit [Std.Commutative (FloatOps.maximumf (F := F) (φ := .f32))] [Std.Associative (FloatOps.maximumf (F := F) (φ := .f32))] in
/-- A point's products are the array's. -/
theorem yB_eq (t : Fin cfg0.N) (r : Fin 256) (h : Fin 2048) :
    yB (iblk m c 0 t) (iblk m c 1 t) (iblk m c 2 t) r h = y (gate m c) (up m c) (weight m c) (exOf t) (rowOf t r) h := by
  have h0 : (iblk m c 0 t : S1x256x2048.Idx → F .bf16) (ix3 0 r h) = gate m c (ix3 (exOf t) (rowOf t r) h) :=
    (congrArg (V m c main_arg0) (emb0 t r h)).trans (congrFun (V_main_arg0 m c) _)
  have h1 : (iblk m c 1 t : S1x256x2048.Idx → F .bf16) (ix3 0 r h) = up m c (ix3 (exOf t) (rowOf t r) h) :=
    (congrArg (V m c main_arg1) (emb1 t r h)).trans (congrFun (V_main_arg1 m c) _)
  have h2 : (iblk m c 2 t : S1x1x256.Idx → F .f32) (ix3 0 0 r) = weight m c (ix2 (exOf t) (rowOf t r)) :=
    (congrArg (V m c main_v0) (emb2 t r)).trans (weights_eq m c (exOf t) (rowOf t r))
  unfold yB y
  rw [h0, h1, h2]

/-- A point's group maxima are the array's. -/
theorem topB_eq (t : Fin cfg0.N) (r : Fin 256) (g : Fin 16) :
    (amax fun k => yB (iblk m c 0 t) (iblk m c 1 t) (iblk m c 2 t) r (col g k))
      = top (gate m c) (up m c) (weight m c) (exOf t) (rowOf t r) g :=
  congrArg amax (funext fun k => yB_eq m c t r (col g k))

/-! ## The codes -/

/-- What point `t` writes back of the codes is its block of the whole array of codes. -/
theorem flushed3 (t : Fin cfg0.N) :
    (dats m 0 c).flushed 3 t = ((cfg0.win 3).blk t).view.read (Elt F) (codes (gate m c) (up m c) (weight m c)) := by
  show (cfg0.win 3).cut (grid0.coords t) ((dats m 0 c).after 3 t) = _
  rw [after0_3]
  unfold outsAt0
  dsimp only
  rw [out_codes]
  funext j
  obtain ⟨z, r, h, rfl⟩ : ∃ (z : Fin 1) (r : Fin 256) (h : Fin 2048), j = ix3 z r h := ⟨_, _, _, eq_ix3 j⟩
  obtain rfl : z = 0 := Subsingleton.elim _ _
  refine Eq.trans ?_ (congrArg (codes (gate m c) (up m c) (weight m c)) (emb3 t r h)).symm
  show code (yB _ _ _ r h) (inv (amax fun k => yB _ _ _ r (col (grp h) k)))
    = code (y _ _ _ (exOf t) (rowOf t r) h) (inv (top _ _ _ (exOf t) (rowOf t r) (grp h)))
  rw [yB_eq, topB_eq]

/-- Every index of the codes is in the block of a point. -/
theorem covered3 (i : S41x1024x2048.Idx) :
    ∃ t : Fin cfg0.N, (cfg0.win 3).flush t = true ∧ i ∈ ((cfg0.win 3).blk t).view.set := by
  obtain ⟨b, s, h, rfl⟩ : ∃ (b : Fin 41) (s : Fin 1024) (h : Fin 2048), i = ix3 b s h := ⟨_, _, _, eq_ix3 i⟩
  let t : Fin cfg0.N := ⟨4 * b.val + s.val / 256, by show 4 * b.val + s.val / 256 < 164; omega⟩
  refine ⟨t, flush0_3 t, ?_⟩
  have e := ((cfg0.win 3).blk t).view.emb_mem_set (ix3 (0 : Fin 1) (⟨s.val % 256, by omega⟩ : Fin 256) h)
  rw [emb3] at e
  have eb : exOf t = b := Fin.ext (by show (4 * b.val + s.val / 256) / 4 = b.val; omega)
  have es : rowOf t ⟨s.val % 256, by omega⟩ = s := Fin.ext (by
    show (4 * b.val + s.val / 256) % 4 * 256 + s.val % 256 = s.val; omega)
  rwa [eb, es] at e

/-- The array of codes after the run. -/
theorem final3 : (dats m 0 c).arrAt 3 cfg0.N = codes (gate m c) (up m c) (weight m c) :=
  (dats m 0 c).arrAt_eq_of_cover 3 _ (fun t _ => flushed3 m c t) covered3

/-! ## The scales -/

/-- The scales, groups by rows. -/
def scalesG : Vec F S41x16x1024 .f32 := fun i => scale (top (gate m c) (up m c) (weight m c) (i 0) (i 2) (i 1))

/-- What point `t` writes back of the scales is its block of the whole array of scales. -/
theorem flushed4 (t : Fin cfg0.N) :
    (dats m 0 c).flushed 4 t = ((cfg0.win 4).blk t).view.read (Elt F) (scalesG m c) := by
  show (cfg0.win 4).cut (grid0.coords t) ((dats m 0 c).after 4 t) = _
  rw [after0_4]
  unfold outsAt0
  dsimp only
  rw [out_scales]
  funext j
  obtain ⟨z, g, r, rfl⟩ : ∃ (z : Fin 1) (g : Fin 16) (r : Fin 256), j = ix3 z g r := ⟨_, _, _, eq_ix3 j⟩
  obtain rfl : z = 0 := Subsingleton.elim _ _
  refine Eq.trans ?_ (congrArg (scalesG m c) (emb4 t g r)).symm
  exact congrArg scale (topB_eq m c t r g)

/-- Every index of the scales is in the block of a point. -/
theorem covered4 (i : S41x16x1024.Idx) :
    ∃ t : Fin cfg0.N, (cfg0.win 4).flush t = true ∧ i ∈ ((cfg0.win 4).blk t).view.set := by
  obtain ⟨b, g, s, rfl⟩ : ∃ (b : Fin 41) (g : Fin 16) (s : Fin 1024), i = ix3 b g s := ⟨_, _, _, eq_ix3 i⟩
  let t : Fin cfg0.N := ⟨4 * b.val + s.val / 256, by show 4 * b.val + s.val / 256 < 164; omega⟩
  refine ⟨t, flush0_4 t, ?_⟩
  have e := ((cfg0.win 4).blk t).view.emb_mem_set (ix3 (0 : Fin 1) g (⟨s.val % 256, by omega⟩ : Fin 256))
  rw [emb4] at e
  have eb : exOf t = b := Fin.ext (by show (4 * b.val + s.val / 256) / 4 = b.val; omega)
  have es : rowOf t ⟨s.val % 256, by omega⟩ = s := Fin.ext (by
    show (4 * b.val + s.val / 256) % 4 * 256 + s.val % 256 = s.val; omega)
  rwa [eb, es] at e

/-- The array of scales after the region, groups by rows. -/
theorem final4 : (dats m 0 c).arrAt 4 cfg0.N = scalesG m c :=
  (dats m 0 c).arrAt_eq_of_cover 4 _ (fun t _ => flushed4 m c t) covered4

/-- The last line turns them to rows by groups. -/
theorem turned_scales : transpose S41x1024x16 [0, 2, 1] (scalesG m c) transposes_S41x16x1024_S41x1024x16_0_2_1
    = scales (gate m c) (up m c) (weight m c) := by
  funext i
  obtain ⟨b, s, g, rfl⟩ : ∃ (b : Fin 41) (s : Fin 1024) (g : Fin 16), i = ix3 b s g := ⟨_, _, _, eq_ix3 i⟩
  refine (transpose_apply _ _ _ _ (ix3 b g s) fun a => ?_).trans rfl
  fin_cases a <;> rfl

/-- So the second result is the array of scales. -/
theorem tail_scales : Pipeline.afterTail₀ cfgs (dats m) 0 (V0 m) [hostOps1] c main_v2 = scales (gate m c) (up m c) (weight m c) := by
  refine Eq.trans ?_ (turned_scales m c)
  unfold Pipeline.afterTail₀
  simp only [List.flatten_cons, List.flatten_nil, List.append_nil]
  after_results
  refine congrArg (fun X => transpose S41x1024x16 [0, 2, 1] X transposes_S41x16x1024_S41x1024x16_0_2_1) ?_
  exact (Pipeline.withArrays_arr (cfgs 0).spec launch0.win.arr_inj c _ _ 4).trans (final4 m c)

/-! ## The run -/

/-- Every run of the kernel ends with the codes and the scales of its arguments, and the arguments unchanged. -/
theorem run : θ_run defs (onTc (τ := τ) (main (F := F))) ⟨m, fun _ => 0, ρ⟩ fun r => ∀ c : Dev nD,
      r.2.mem ((c : Thread nD τ).loc main_v1_0) = codes (gate m c) (up m c) (weight m c)
      ∧ r.2.mem ((c : Thread nD τ).loc main_v2) = scales (gate m c) (up m c) (weight m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).1 3).trans (final3 m c),
       ((h c).2 main_v2 (Pipeline.mem_restRefs_of main_v2 (by decide) (by decide))).trans (tail_scales m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.Kernel.Arrays

end
-- ==== Proof.lean ====
/-
  The proof of `Cert.Claim`: the two frames, and the bit-exact equality of the kernel with the reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Reference.Value
public import proofs.«01_k».proof.Proof.Spec
public import proofs.«01_k».proof.Proof.Ref
public import proofs.«01_k».proof.Proof.Tile
public import proofs.«01_k».proof.Proof.Block
public import proofs.«01_k».proof.Proof.Arrays
public import Idealize.ShloMosaic.PureOps.BitExact.Laws
public import Idealize.ShloMosaic.Adequacy
public import Idealize.ShloMosaic.Init

@[expose] public section

noncomputable section

namespace Cert.Proof

open Idealize.ShloMosaic Idealize.SL.Sem

/-- From memories that agree on the arguments, the kernel and the reference both end with the same codes and the same
    scales, bit for bit: each program's results are `Spec.codes` and `Spec.scales` of its arguments. -/
theorem bitexact : bitexact_Kernel_Reference (hKernel := Cert.Kernel.Gen.facts) (hReference := Cert.Reference.Gen.facts) := by
  intro m g m' g' _ hm
  refine ⟨fun c => Cert.Spec.codes (Cert.Kernel.Arrays.gate m c) (Cert.Kernel.Arrays.up m c) (Cert.Kernel.Arrays.weight m c),
    fun c => Cert.Spec.scales (Cert.Kernel.Arrays.gate m c) (Cert.Kernel.Arrays.up m c) (Cert.Kernel.Arrays.weight m c),
    Cert.Kernel.Arrays.run m g, ?_⟩
  refine (θ_run _ _ _).mono (fun r h c => ?_) (Cert.Reference.Value.run m' g')
  obtain ⟨h3, h4, hargs⟩ := h c
  obtain ⟨a0, a1, a2⟩ := hm c
  refine ⟨h3.trans ?_, h4.trans ?_, hargs⟩
  · refine (Cert.Reference.Read.codes_eq _ _ _).trans ?_
    rw [a0, a1, a2]
  · refine (Cert.Reference.Read.scales_eq _ _ _).trans ?_
    rw [a0, a1, a2]

/-- The certificate: both programs run, leave their arguments unchanged and end quiescent, and their results agree bit for bit. -/
theorem claim : Cert.Claim :=
  ⟨Cert.Kernel.Gen.facts, Cert.Reference.Gen.facts, fun m ρ _ => Cert.Kernel.Gen.frame m ρ,
    fun m ρ _ => Cert.Reference.Gen.frame m ρ, bitexact⟩

end Cert.Proof

end
